-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v16) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S16x576x256 : Shape := ⟨3, ![16, 576, 256]⟩
abbrev S256x8192 : Shape := ⟨2, ![256, 8192]⟩
abbrev S9216x256 : Shape := ⟨2, ![9216, 256]⟩
abbrev S_ : Shape := ⟨0, ![]⟩
abbrev S8192 : Shape := ⟨1, ![8192]⟩
abbrev S1x8192 : Shape := ⟨2, ![1, 8192]⟩
abbrev S9216 : Shape := ⟨1, ![9216]⟩
abbrev S9216x1 : Shape := ⟨2, ![9216, 1]⟩
abbrev S18x1x512 : Shape := ⟨3, ![18, 1, 512]⟩
abbrev S16x576 : Shape := ⟨2, ![16, 576]⟩
abbrev S512x256 : Shape := ⟨2, ![512, 256]⟩
abbrev S1x1x512 : Shape := ⟨3, ![1, 1, 512]⟩
abbrev S512 : Shape := ⟨1, ![512]⟩
abbrev S512x1 : Shape := ⟨2, ![512, 1]⟩
abbrev S256x2048 : Shape := ⟨2, ![256, 2048]⟩
abbrev S512x2048 : Shape := ⟨2, ![512, 2048]⟩
abbrev S1x2048 : Shape := ⟨2, ![1, 2048]⟩

abbrev nBuf : Space → Nat
  | .hbm => 17
  | .vmem => 9
  | .smem => 0
  | _ => 0

abbrev bufTy : (tb : Table) → Fin (tcTables nBuf tb) → BufTy
  | .hbm, ⟨0, _⟩ => ⟨S16x576x256, .f32⟩
  | .hbm, ⟨1, _⟩ => ⟨S256x8192, .f32⟩
  | .hbm, ⟨2, _⟩ => ⟨S9216x256, .f32⟩
  | .hbm, ⟨3, _⟩ => ⟨S256x8192, .f32⟩
  | .hbm, ⟨4, _⟩ => ⟨S256x8192, .f32⟩
  | .hbm, ⟨5, _⟩ => ⟨S_, .f32⟩
  | .hbm, ⟨6, _⟩ => ⟨S8192, .f32⟩
  | .hbm, ⟨7, _⟩ => ⟨S1x8192, .f32⟩
  | .hbm, ⟨8, _⟩ => ⟨S9216x256, .f32⟩
  | .hbm, ⟨9, _⟩ => ⟨S_, .f32⟩
  | .hbm, ⟨10, _⟩ => ⟨S9216, .f32⟩
  | .hbm, ⟨11, _⟩ => ⟨S9216x1, .f32⟩
  | .hbm, ⟨12, _⟩ => ⟨S18x1x512, .f32⟩
  | .hbm, ⟨13, _⟩ => ⟨S8192, .f32⟩
  | .hbm, ⟨14, _⟩ => ⟨S1x8192, .f32⟩
  | .hbm, ⟨15, _⟩ => ⟨S18x1x512, .i32⟩
  | .hbm, ⟨16, _⟩ => ⟨S16x576, .i32⟩
  | .local _ .vmem, ⟨0, _⟩ => ⟨S512x256, .f32⟩
  | .local _ .vmem, ⟨1, _⟩ => ⟨S512x256, .f32⟩
  | .local _ .vmem, ⟨2, _⟩ => ⟨S1x1x512, .f32⟩
  | .local _ .vmem, ⟨3, _⟩ => ⟨S1x1x512, .f32⟩
  | .local _ .vmem, ⟨4, _⟩ => ⟨S256x8192, .f32⟩
  | .local _ .vmem, ⟨5, _⟩ => ⟨S1x8192, .f32⟩
  | .local _ .vmem, ⟨6, _⟩ => ⟨S1x8192, .f32⟩
  | .local _ .vmem, ⟨7, _⟩ => ⟨S1x1x512, .i32⟩
  | .local _ .vmem, ⟨8, _⟩ => ⟨S1x1x512, .i32⟩
  | _, _ => ⟨S16x576x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_call0_v0 : Ref sig .tc := ⟨.hbm, 2, rfl⟩
abbrev main_call0_v1 : Ref sig .tc := ⟨.hbm, 3, rfl⟩
abbrev main_call0_v2 : Ref sig .tc := ⟨.hbm, 4, rfl⟩
abbrev main_call0_cst : Ref sig .tc := ⟨.hbm, 5, rfl⟩
abbrev main_call0_v3 : Ref sig .tc := ⟨.hbm, 6, rfl⟩
abbrev main_call0_v4 : Ref sig .tc := ⟨.hbm, 7, rfl⟩
abbrev main_call0_v5 : Ref sig .tc := ⟨.hbm, 8, rfl⟩
abbrev main_call0_cst_0 : Ref sig .tc := ⟨.hbm, 9, rfl⟩
abbrev main_call0_v6 : Ref sig .tc := ⟨.hbm, 10, rfl⟩
abbrev main_call0_v7 : Ref sig .tc := ⟨.hbm, 11, rfl⟩
abbrev main_call0_v8 : Ref sig .tc := ⟨.hbm, 12, rfl⟩
abbrev main_call0_v9 : Ref sig .tc := ⟨.hbm, 13, rfl⟩
abbrev main_call0_v10 : Ref sig .tc := ⟨.hbm, 14, rfl⟩
abbrev main_call0_v11 : Ref sig .tc := ⟨.hbm, 15, rfl⟩
abbrev main_v0 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8

abbrev nD : Nat := 1
abbrev τ : Topo := Topo.v7x

variable {F : FTy → Type} [FloatOps F]

abbrev grid0 : Pipeline.Grid := ⟨1, ![18], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S512x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S256x8192 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x8192 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x8192 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S1x1x512 .i32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== ReferenceIdeal.lean ====
abbrev S16x576x256 : Shape := ⟨3, ![16, 576, 256]⟩
abbrev S256x8192 : Shape := ⟨2, ![256, 8192]⟩
abbrev S_ : Shape := ⟨0, ![]⟩
abbrev S8192 : Shape := ⟨1, ![8192]⟩
abbrev S1x8192 : Shape := ⟨2, ![1, 8192]⟩
abbrev S9216x256 : Shape := ⟨2, ![9216, 256]⟩
abbrev S9216 : Shape := ⟨1, ![9216]⟩
abbrev S9216x1 : Shape := ⟨2, ![9216, 1]⟩
abbrev S9216x8192 : Shape := ⟨2, ![9216, 8192]⟩
abbrev S16x576 : Shape := ⟨2, ![16, 576]⟩

abbrev nBuf : Space → Nat
  | .hbm => 26
  | .vmem => 0
  | .smem => 0
  | _ => 0

abbrev bufTy : (tb : Table) → Fin (tcTables nBuf tb) → BufTy
  | .hbm, ⟨0, _⟩ => ⟨S16x576x256, .f32⟩
  | .hbm, ⟨1, _⟩ => ⟨S256x8192, .f32⟩
  | .hbm, ⟨2, _⟩ => ⟨S256x8192, .f32⟩
  | .hbm, ⟨3, _⟩ => ⟨S_, .f32⟩
  | .hbm, ⟨4, _⟩ => ⟨S8192, .f32⟩
  | .hbm, ⟨5, _⟩ => ⟨S1x8192, .f32⟩
  | .hbm, ⟨6, _⟩ => ⟨S9216x256, .f32⟩
  | .hbm, ⟨7, _⟩ => ⟨S9216x256, .f32⟩
  | .hbm, ⟨8, _⟩ => ⟨S_, .f32⟩
  | .hbm, ⟨9, _⟩ => ⟨S9216, .f32⟩
  | .hbm, ⟨10, _⟩ => ⟨S9216x1, .f32⟩
  | .hbm, ⟨11, _⟩ => ⟨S9216x8192, .f32⟩
  | .hbm, ⟨12, _⟩ => ⟨S_, .f32⟩
  | .hbm, ⟨13, _⟩ => ⟨S9216x8192, .f32⟩
  | .hbm, ⟨14, _⟩ => ⟨S9216x8192, .f32⟩
  | .hbm, ⟨15, _⟩ => ⟨S9216x8192, .f32⟩
  | .hbm, ⟨16, _⟩ => ⟨S9216x8192, .f32⟩
  | .hbm, ⟨17, _⟩ => ⟨S9216x8192, .f32⟩
  | .hbm, ⟨18, _⟩ => ⟨S9216x8192, .f32⟩
  | .hbm, ⟨19, _⟩ => ⟨S9216x8192, .f32⟩
  | .hbm, ⟨20, _⟩ => ⟨S9216x8192, .i32⟩
  | .hbm, ⟨21, _⟩ => ⟨S_, .f32⟩
  | .hbm, ⟨22, _⟩ => ⟨S_, .i32⟩
  | .hbm, ⟨23, _⟩ => ⟨S9216, .f32⟩
  | .hbm, ⟨24, _⟩ => ⟨S9216, .i32⟩
  | .hbm, ⟨25, _⟩ => ⟨S16x576, .i32⟩
  | _, _ => ⟨S16x576x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_cst_0 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_cst_1 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_call0_v0 : Ref sig .tc := ⟨.hbm, 20, rfl⟩
abbrev main_call0_cst : Ref sig .tc := ⟨.hbm, 21, rfl⟩
abbrev main_call0_c : Ref sig .tc := ⟨.hbm, 22, rfl⟩
abbrev main_call0_v1_0 : Ref sig .tc := ⟨.hbm, 23, rfl⟩
abbrev main_v15 : Ref sig .tc := ⟨.hbm, 24, rfl⟩
abbrev main_v16 : Ref sig .tc := ⟨.hbm, 25, rfl⟩

abbrev nD : Nat := 1
abbrev τ : Topo := Topo.v7x

variable {F : FTy → Type} [FloatOps F]
-- ==== Proof.FirstMin.lean ====
/-
  The place of a smallest value, lowest place first, as plain mathematics over the extended reals.

  `FirstMin D N k` says that `k` is the FIRST place, among the places below `N`, at which `D` takes its smallest value
  there. It is met by a walk over blocks of places, the block's own first smallest place taken first: a further block
  either changes nothing (`FirstMin.stay_block`) or moves to its own place (`FirstMin.step_block`). Inside a block the place
  is found as the least of the numbers that stand where the value is the block's least, a larger number standing elsewhere
  (`least_number`).
-/
module

public import Mathlib.Data.EReal.Operations
public import Mathlib.Data.Finset.Lattice.Fold
public import Mathlib.Data.Finset.Max
public import Mathlib.Data.Fintype.Basic

@[expose] public section

noncomputable section

namespace Cert.Proof

/-- `k` is the first place below `N` at which `D` takes its smallest value below `N`. -/
structure FirstMin {n : ℕ} (D : Fin n → EReal) (N : ℕ) (k : Fin n) : Prop where
  /-- The place is among those looked at. -/
  lt : k.val < N
  /-- No place looked at holds a smaller value. -/
  le : ∀ j : Fin n, j.val < N → D k ≤ D j
  /-- Every earlier place holds a larger value. -/
  first : ∀ j : Fin n, j.val < k.val → D k < D j

namespace FirstMin

variable {n : ℕ} {D : Fin n → EReal} {N : ℕ} {k k' : Fin n}

/-- Looking at a block of further places, none of which holds a smaller value, changes nothing. -/
theorem stay_block {M : ℕ} (h : FirstMin D N k) (hNM : N ≤ M)
    (hle : ∀ j : Fin n, N ≤ j.val → j.val < M → D k ≤ D j) : FirstMin D M k where
  lt := h.lt.trans_le hNM
  le j hj := (lt_or_ge j.val N).elim (h.le j) fun hN => hle j hN hj
  first := h.first

/-- Looking at a block of further places, the first smallest place of which, `k'`, holds a smaller value than any place
    so far, moves to `k'`. -/
theorem step_block {M : ℕ} (h : FirstMin D N k) (hN : N ≤ k'.val) (hM : k'.val < M) (hlt : D k' < D k)
    (hle : ∀ j : Fin n, N ≤ j.val → j.val < M → D k' ≤ D j)
    (hfirst : ∀ j : Fin n, N ≤ j.val → j.val < k'.val → D k' < D j) : FirstMin D M k' where
  lt := hM
  le j hj := (lt_or_ge j.val N).elim (fun hj' => hlt.le.trans (h.le j hj')) fun hN' => hle j hN' hj
  first j hj := (lt_or_ge j.val N).elim (fun hj' => hlt.trans_le (h.le j hj')) fun hN' => hfirst j hN' hj

end FirstMin

/-! ## One block of places -/

/-- The smallest value of a family. -/
def leastOf {n : ℕ} (C : Fin n → EReal) : EReal := Finset.univ.fold min ⊤ C

theorem leastOf_le {n : ℕ} (C : Fin n → EReal) (j : Fin n) : leastOf C ≤ C j :=
  Finset.inf_le (f := C) (Finset.mem_univ j)

theorem le_leastOf {n : ℕ} (C : Fin n → EReal) (a : EReal) (h : ∀ j, a ≤ C j) : a ≤ leastOf C :=
  Finset.le_inf fun j _ => h j

/-- The smallest value of a family that has a member is taken, and taken somewhere first. -/
theorem exists_first {n : ℕ} (hn : 0 < n) (C : Fin n → EReal) :
    ∃ k : Fin n, C k = leastOf C ∧ ∀ j : Fin n, j.val < k.val → leastOf C < C j := by
  classical
  have hne : (Finset.univ : Finset (Fin n)).Nonempty := ⟨⟨0, hn⟩, Finset.mem_univ _⟩
  obtain ⟨a, -, ha⟩ := Finset.exists_mem_eq_inf Finset.univ hne C
  have hS : (Finset.univ.filter fun j : Fin n => C j = leastOf C).Nonempty :=
    ⟨a, Finset.mem_filter.mpr ⟨Finset.mem_univ _, ha.symm⟩⟩
  refine ⟨(Finset.univ.filter fun j : Fin n => C j = leastOf C).min' hS,
    (Finset.mem_filter.mp (Finset.min'_mem _ hS)).2, fun j hj => ?_⟩
  refine lt_of_le_of_ne (leastOf_le C j) fun e => ?_
  exact absurd (Finset.min'_le _ j (Finset.mem_filter.mpr ⟨Finset.mem_univ _, e.symm⟩)) (not_le.mpr hj)

/-- THE NUMBER OF A BLOCK. Each place `r` of a block carries the number `o + r`; where the value is the block's least that
    number is kept, elsewhere a number `B` no smaller than any of them stands in its place. The least of the numbers then
    standing is the number of the block's first smallest place. -/
theorem least_number {n : ℕ} (C : Fin n → EReal) (o : ℕ) (B : EReal) (hB : ∀ r : Fin n, (((o + r.val : ℕ) : ℝ) : EReal) ≤ B)
    (k : Fin n) (hk : C k = leastOf C) (hfirst : ∀ j : Fin n, j.val < k.val → leastOf C < C j) :
    leastOf (fun r => if C r = leastOf C then (((o + r.val : ℕ) : ℝ) : EReal) else B) = (((o + k.val : ℕ) : ℝ) : EReal) := by
  refine le_antisymm ?_ (le_leastOf _ _ fun r => ?_)
  · refine (leastOf_le _ k).trans ?_
    simp only [hk, if_true, le_refl]
  · split_ifs with hr
    · have hkr : k.val ≤ r.val := not_lt.mp fun h => absurd hr (hfirst r h).ne'
      exact_mod_cast Nat.add_le_add_left hkr o
    · exact hB k

/-! ## A search by blocks -/

/-- Place `r` of the block that begins at place `o`. -/
def place {n b : ℕ} (o : ℕ) (ho : o + b ≤ n) (r : Fin b) : Fin n := ⟨o + r.val, by omega⟩

/-- The number kept for a block of `D` beginning at `o`: the least of the places' own numbers, taken where the value is
    the block's least, and of `B`, taken elsewhere. -/
def blockNumber {n b : ℕ} (D : Fin n → EReal) (B : EReal) (o : ℕ) (ho : o + b ≤ n) : EReal :=
  leastOf fun r : Fin b =>
    if D (place o ho r) = leastOf (fun r : Fin b => D (place o ho r)) then (((place o ho r).val : ℝ) : EReal) else B

/-- What a search holds once it has looked at the places below `N`: the number `best` of the first smallest place there,
    and its value `run`. -/
def SoFar {n : ℕ} (D : Fin n → EReal) (N : ℕ) (best run : EReal) : Prop :=
  ∃ k : Fin n, FirstMin D N k ∧ best = ((k.val : ℝ) : EReal) ∧ run = D k

section Blocks

variable {n b : ℕ} {D : Fin n → EReal} {B : EReal} (hb : 0 < b) (hB : ∀ j : Fin n, ((j.val : ℝ) : EReal) ≤ B)
include hb hB

/-- A block's first smallest place: its value is the block's least, its number the block's number. -/
theorem exists_block (o : ℕ) (ho : o + b ≤ n) :
    ∃ k : Fin n, o ≤ k.val ∧ k.val < o + b ∧ D k = leastOf (fun r : Fin b => D (place o ho r))
      ∧ blockNumber D B o ho = ((k.val : ℝ) : EReal)
      ∧ (∀ j : Fin n, o ≤ j.val → j.val < o + b → D k ≤ D j)
      ∧ ∀ j : Fin n, o ≤ j.val → j.val < k.val → D k < D j := by
  obtain ⟨r, hr, hfirst⟩ := exists_first hb fun r : Fin b => D (place o ho r)
  have back : ∀ j : Fin n, ∀ h : o ≤ j.val, ∀ h' : j.val < o + b, place o ho ⟨j.val - o, by omega⟩ = j :=
    fun j h h' => Fin.ext (show o + (j.val - o) = j.val by omega)
  refine ⟨place o ho r, Nat.le_add_right _ _, Nat.add_lt_add_left r.isLt o, hr,
    least_number (fun r : Fin b => D (place o ho r)) o B (fun r => hB (place o ho r)) r hr hfirst, fun j h h' => ?_,
    fun j h h' => ?_⟩
  · rw [hr, ← back j h h']
    exact leastOf_le (fun r : Fin b => D (place o ho r)) _
  · have h'' : j.val < o + r.val := h'
    rw [hr, ← back j h (by omega)]
    exact hfirst ⟨j.val - o, by omega⟩ (show j.val - o < r.val by omega)

/-- After the first block the search holds that block's number and least value. -/
theorem SoFar.start (ho : 0 + b ≤ n) :
    SoFar D (0 + b) (blockNumber D B 0 ho) (leastOf fun r : Fin b => D (place 0 ho r)) := by
  obtain ⟨k, -, hkb, hval, hnum, hle, hfirst⟩ := exists_block (D := D) hb hB 0 ho
  exact ⟨k, ⟨hkb, fun j hj => hle j (Nat.zero_le _) hj, fun j hj => hfirst j (Nat.zero_le _) hj⟩, hnum, hval.symm⟩

/-- A further block replaces what the search holds exactly when its least value is smaller than the one held; then the
    search is right up to the end of that block. -/
theorem SoFar.next {o : ℕ} {best run : EReal} (h : SoFar D o best run) (ho : o + b ≤ n) :
    SoFar D (o + b)
      (if leastOf (fun r : Fin b => D (place o ho r)) < run then blockNumber D B o ho else best)
      (if leastOf (fun r : Fin b => D (place o ho r)) < run then leastOf (fun r : Fin b => D (place o ho r)) else run) := by
  obtain ⟨k, hk, rfl, rfl⟩ := h
  obtain ⟨k', hok, hkb, hval, hnum, hle, hfirst⟩ := exists_block (D := D) hb hB o ho
  rw [← hval, hnum]
  by_cases hlt : D k' < D k
  · simp only [if_pos hlt]
    exact ⟨k', hk.step_block hok hkb hlt hle hfirst, rfl, rfl⟩
  · simp only [if_neg hlt]
    exact ⟨k, hk.stay_block (Nat.le_add_right _ _) fun j hj hj' => (not_lt.mp hlt).trans (hle j hj hj'), rfl, rfl⟩

end Blocks

end Cert.Proof

end
-- ==== Proof.Numbers.lean ====
/-
  The constants both programs write as words of bits, the whole number a real turns back into, and twice a sum.
-/
module

public import Idealize.ShloMosaic.PureOps.Ideal.Laws

@[expose] public section

noncomputable section

namespace Cert.Proof

open Idealize.ShloMosaic

/-- The word of +∞. -/
theorem word_top : Ideal.ofBits .f32 0x7F800000#32 = ⊤ := by simp [Ideal.ofBits, Ideal.ieee]

/-- The word of −∞. -/
theorem word_bot : Ideal.ofBits .f32 0xFF800000#32 = ⊥ := by simp [Ideal.ofBits, Ideal.ieee]

/-- The word of 16384, a number larger than every code's. -/
theorem word_16384 : Ideal.ofBits .f32 0x46800000#32 = ((16384 : ℝ) : EReal) := by
  simp [Ideal.ofBits, Ideal.ieee, -EReal.coe_mul]; norm_num

/-- The word of 2. -/
theorem word_two : Ideal.ofBits .f32 0x40000000#32 = 2 := by
  rw [show (2 : EReal) = ((2 : ℝ) : EReal) by norm_cast]
  simp [Ideal.ofBits, Ideal.ieee, -EReal.coe_mul]; norm_num

/-- A natural number below 8192, written as a real and turned back into a word, is that number's word. -/
theorem fptosi_natCast (k : ℕ) (hk : k < 8192) : Ideal.fptosi 32 ((k : ℝ) : EReal) = BitVec.ofNat 32 k := by
  rw [Ideal.fptosi, Ideal.toIntClamped_coe, if_pos (Nat.cast_nonneg k), Int.floor_natCast]
  have hclamp : max (-((2 ^ (32 - 1) : ℕ) : ℤ)) (min (((2 ^ (32 - 1) : ℕ) : ℤ) - 1) (k : ℤ)) = (k : ℤ) := by omega
  rw [hclamp]
  exact BitVec.ofInt_natCast 32 k

/-- The word of a natural number below 8192, turned into a real, is that number. -/
theorem sitofp_ofNat (k : ℕ) (hk : k < 8192) :
    FloatOps.sitofp (F := Ideal) .f32 (BitVec.ofNat 32 k) = ((k : ℝ) : EReal) := by
  have h : (BitVec.ofNat 32 k).toInt = (k : ℤ) := by
    rw [BitVec.toInt_eq_toNat_cond, BitVec.toNat_ofNat, Nat.mod_eq_of_lt (by omega), if_pos (by omega)]
  show (((BitVec.ofNat 32 k).toInt : ℝ) : EReal) = _
  rw [h, Int.cast_natCast]

/-- Twice a sum is the sum of the doubled terms, whatever the terms. -/
theorem two_mul_sum {n : ℕ} (a : Fin n → EReal) : 2 * ∑ k, a k = ∑ k, 2 * a k := by
  have h2 : (0 : EReal) ≤ 2 := by norm_num
  have h2t : (2 : EReal) ≠ ⊤ := by
    rw [show (2 : EReal) = ((2 : ℝ) : EReal) by norm_cast]; exact EReal.coe_ne_top 2
  induction n with
  | zero => simp
  | succ n ih => rw [Fin.sum_univ_succ, Fin.sum_univ_succ, EReal.left_distrib_of_nonneg_of_ne_top h2 h2t, ih]

/-- A factor doubled by adding it to itself doubles the product. -/
theorem mul_add_self (x e : EReal) : x * (e + e) = 2 * (x * e) := by
  have h : e + e = 2 * e := by
    rw [← one_add_one_eq_two, EReal.right_distrib_of_nonneg zero_le_one zero_le_one, one_mul]
  rw [h, mul_left_comm]

end Cert.Proof

end
-- ==== Proof.Block.lean ====
/-
  What the kernel's body leaves in its output block: at row `p` the word of the first code nearest to that row.

  The body has five inputs: the block's 512 rows `x0`, the rows' squared lengths `x1`, the codes `x2` (doubled), the codes'
  squared lengths `x3`, and the codes' numbers `x4`. It goes through the 8192 codes in four blocks of 2048. For each block
  it forms the distances (`dist`), their least value, and the least of the numbers of the codes at that value; it keeps the
  first block's pair, and replaces it by a later block's when that block's least distance is smaller.
-/
module

public import proofs.«01_k».proof.Proof.FirstMin
public import proofs.«01_k».proof.Proof.Numbers
public import proofs.«01_k».proof.Proof.Gen.KernelIdeal.Frame
public import Idealize.ShloMosaic.Lib.Pipeline.Value
public import Idealize.ShloMosaic.Lib.Pointwise

@[expose] public section

noncomputable section

namespace Cert.Proof

open Cert.KernelIdeal Cert.KernelIdeal.Gen Idealize.ShloMosaic

variable (x0 : Vec Ideal S512x256 .f32) (x1 : Vec Ideal S1x1x512 .f32) (x2 : Vec Ideal S256x8192 .f32)
  (x3 x4 : Vec Ideal S1x8192 .f32) (p : Fin 512)

/-- The distance from row `p` of the block to code `j`, as the body forms it: the row's squared length, less the row's
    product with the code's column, plus the code's squared length. -/
def dist (j : Fin 8192) : EReal :=
  (x1 (ix3 0 0 p) - ∑ k : Fin 256, x0 (ix2 p k) * x2 (ix2 k j)) + x3 (ix2 0 j)

/-- The least distance from row `p` to the 2048 codes from code `o` on. -/
def least (o : ℕ) (ho : o + 2048 ≤ 8192) : EReal :=
  leastOf fun r : Fin 2048 => dist x0 x1 x2 x3 p (place o ho r)

/-- The number kept for those codes: that of the first at the least distance. -/
def number (o : ℕ) (ho : o + 2048 ≤ 8192) : EReal :=
  blockNumber (b := 2048) (dist x0 x1 x2 x3 p) ((16384 : ℝ) : EReal) o ho

/-! ## The distances of each block of codes -/

theorem dist_first (r : Fin 2048) :
    k0_pay6 x0 x1 x3 x2 (ix2 p r) = dist x0 x1 x2 x3 p (place 0 (by decide) r) := by
  unfold_payloads
  pointwise
  exact congrArg (dist x0 x1 x2 x3 p) (Fin.ext (Nat.zero_add r.val).symm)

theorem dist_second (r : Fin 2048) :
    k0_pay10 x0 x1 x3 x2 (ix2 p r) = dist x0 x1 x2 x3 p (place 2048 (by decide) r) := by
  unfold_payloads
  pointwise
  rfl

theorem dist_third (r : Fin 2048) :
    k0_pay15 (k0_pay2 x0) (k0_pay3 x1) (k0_pay4 x3) (k0_pay5 x2) (ix2 p r)
      = dist x0 x1 x2 x3 p (place 4096 (by decide) r) := by
  unfold_payloads
  pointwise
  rfl

theorem dist_fourth (r : Fin 2048) :
    k0_pay21 (k0_pay2 x0) (k0_pay3 x1) (k0_pay4 x3) (k0_pay5 x2) (ix2 p r)
      = dist x0 x1 x2 x3 p (place 6144 (by decide) r) := by
  unfold_payloads
  pointwise
  rfl

/-! ## The least distance of each block of codes -/

theorem least_first : k0_pay7 x0 x1 x3 x2 (ix2 p 0) = least x0 x1 x2 x3 p 0 (by decide) := by
  unfold k0_pay7
  pointwise
  simp only [dist_first, word_top]
  rfl

theorem least_second : k0_pay11 x0 x1 x3 x2 (ix2 p 0) = least x0 x1 x2 x3 p 2048 (by decide) := by
  unfold k0_pay11
  pointwise
  simp only [dist_second, word_top]
  rfl

theorem least_third :
    k0_pay16 (k0_pay2 x0) (k0_pay3 x1) (k0_pay4 x3) (k0_pay5 x2) (ix2 p 0)
      = least x0 x1 x2 x3 p 4096 (by decide) := by
  unfold k0_pay16
  pointwise
  simp only [dist_third, word_top]
  rfl

theorem least_fourth :
    k0_pay22 (k0_pay2 x0) (k0_pay3 x1) (k0_pay4 x3) (k0_pay5 x2) (ix2 p 0)
      = least x0 x1 x2 x3 p 6144 (by decide) := by
  unfold k0_pay22
  pointwise
  simp only [dist_fourth, word_top]
  rfl

/-! ## The number kept for each block of codes -/

/-- The least of the numbers that stand for a block of codes, once the distances, their least value and the numbers are
    known. -/
theorem fold_number (o : ℕ) (ho : o + 2048 ≤ 8192) (d : Fin 2048 → EReal) (m : EReal) (num : Fin 2048 → EReal)
    (hd : ∀ r, d r = dist x0 x1 x2 x3 p (place o ho r)) (hm : m = least x0 x1 x2 x3 p o ho)
    (hnum : ∀ r, num r = (((place o ho r).val : ℝ) : EReal)) :
    Finset.univ.fold min (Ideal.ofBits .f32 0x7F800000#32)
        (fun r : Fin 2048 => if d r = m then num r else Ideal.ofBits .f32 0x46800000#32)
      = number x0 x1 x2 x3 p o ho := by
  simp only [hd, hm, hnum, word_top, word_16384]
  rfl

/-! ## The whole body -/

/-- Every code's number is below 16384. -/
theorem number_le (j : Fin 8192) : ((j.val : ℝ) : EReal) ≤ ((16384 : ℝ) : EReal) := by
  have h : (j.val : ℝ) ≤ 16384 := by exact_mod_cast (show j.val ≤ 16384 by omega)
  exact_mod_cast h

/-- The least distance after the second block of codes: the smaller of the one held and the block's. -/
theorem run_second (run : FVec Ideal S512 .f32) :
    k0_pay14 run (k0_pay11 x0 x1 x3 x2) (ix1 p)
      = if least x0 x1 x2 x3 p 2048 (by decide) < run (ix1 p) then least x0 x1 x2 x3 p 2048 (by decide)
        else run (ix1 p) := by
  unfold k0_pay14 k0_pay13 k0_pay12
  pointwise
  simp only [least_second]

/-- The least distance after the third block of codes, from the one held after the second. -/
theorem run_third (run : FVec Ideal S512 .f32) (m : FVec Ideal S512x1 .f32) :
    k0_pay20 (k0_pay2 x0) (k0_pay3 x1) (k0_pay4 x3) (k0_pay5 x2) run m (ix1 p)
      = if least x0 x1 x2 x3 p 4096 (by decide) < k0_pay14 run m (ix1 p) then least x0 x1 x2 x3 p 4096 (by decide)
        else k0_pay14 run m (ix1 p) := by
  unfold k0_pay20 k0_pay18 k0_pay17
  pointwise
  simp only [least_third]

variable (h4 : ∀ j : Fin 8192, x4 (ix2 0 j) = ((j.val : ℝ) : EReal))
include h4

/-- The number and the least distance the body holds for row `p` after the first block of codes. -/
theorem held_first :
    SoFar (dist x0 x1 x2 x3 p) 2048 (k0_pay8 x0 x1 x3 x2 (View.ld x4 r0_4) (ix1 p)) (k0_pay9 x0 x1 x3 x2 (ix1 p)) := by
  have hn : k0_pay8 x0 x1 x3 x2 (View.ld x4 r0_4) (ix1 p) = number x0 x1 x2 x3 p 0 (by decide) := by
    unfold k0_pay8
    pointwise
    exact fold_number x0 x1 x2 x3 p 0 (by decide) _ _ _ (dist_first x0 x1 x2 x3 p) (least_first x0 x1 x2 x3 p)
      fun r => by
        rw [← h4]; pointwise; exact congrArg x4 (congrArg (ix2 0) (Fin.ext (Nat.zero_add r.val).symm))
  have hl : k0_pay9 x0 x1 x3 x2 (ix1 p) = least x0 x1 x2 x3 p 0 (by decide) := by
    unfold k0_pay9
    pointwise
    exact least_first x0 x1 x2 x3 p
  rw [hn, hl]
  exact SoFar.start (b := 2048) (by decide) number_le _

/-- After the second and third blocks, from what is held after the first. -/
theorem held_third (best run : FVec Ideal S512 .f32) (h : SoFar (dist x0 x1 x2 x3 p) 2048 (best (ix1 p)) (run (ix1 p))) :
    SoFar (dist x0 x1 x2 x3 p) 6144
      (k0_pay19 (k0_pay2 x0) (k0_pay3 x1) (k0_pay4 x3) (k0_pay5 x2) best run (k0_pay10 x0 x1 x3 x2)
        (k0_pay11 x0 x1 x3 x2) (View.ld x4 r0_5) (View.ld x4 r0_6) (ix1 p))
      (k0_pay20 (k0_pay2 x0) (k0_pay3 x1) (k0_pay4 x3) (k0_pay5 x2) run (k0_pay11 x0 x1 x3 x2) (ix1 p)) := by
  have hn : k0_pay19 (k0_pay2 x0) (k0_pay3 x1) (k0_pay4 x3) (k0_pay5 x2) best run (k0_pay10 x0 x1 x3 x2)
        (k0_pay11 x0 x1 x3 x2) (View.ld x4 r0_5) (View.ld x4 r0_6) (ix1 p)
      = if least x0 x1 x2 x3 p 4096 (by decide) < k0_pay14 run (k0_pay11 x0 x1 x3 x2) (ix1 p)
        then number x0 x1 x2 x3 p 4096 (by decide)
        else if least x0 x1 x2 x3 p 2048 (by decide) < run (ix1 p) then number x0 x1 x2 x3 p 2048 (by decide)
          else best (ix1 p) := by
    unfold k0_pay19 k0_pay18 k0_pay17 k0_pay13 k0_pay12
    pointwise
    rw [fold_number x0 x1 x2 x3 p 4096 (by decide) _ _ _ (dist_third x0 x1 x2 x3 p) (least_third x0 x1 x2 x3 p)
        fun r => by rw [← h4]; rfl,
      fold_number x0 x1 x2 x3 p 2048 (by decide) _ _ _ (dist_second x0 x1 x2 x3 p) (least_second x0 x1 x2 x3 p)
        fun r => by rw [← h4]; rfl]
    simp only [least_second, least_third]
  rw [hn, run_third, run_second]
  exact (h.next (b := 2048) (B := ((16384 : ℝ) : EReal)) (by decide) number_le (by decide)).next (b := 2048) (by decide) number_le (by decide)

/-- THE BODY'S RESULT. At row `p` the output block holds the word of `k`, the first code at the least distance from the
    row among all 8192. -/
theorem out_row :
    ∃ k : Fin 8192, FirstMin (dist x0 x1 x2 x3 p) 8192 k
      ∧ out0_5 x0 x1 x2 x3 x4 (ix3 0 0 p) = BitVec.ofNat 32 k.val := by
  have z2 : (![0, 0] : Fin 2 → ℕ) = fun _ => 0 := funext (by decide)
  have z3 : (![0, 0, 0] : Fin 3 → ℕ) = fun _ => 0 := funext (by decide)
  have hw0 : View.ld x0 r0_0 = x0 := View.ld_unit_zero z2 _ x0
  have hw1 : View.ld x1 r0_1 = x1 := View.ld_unit_zero z3 _ x1
  have hw2 : View.ld x2 r0_3 = x2 := View.ld_unit_zero z2 _ x2
  have hw3 : View.ld x3 r0_2 = x3 := View.ld_unit_zero z2 _ x3
  obtain ⟨k, hk, hbest, -⟩ := (held_third x0 x1 x2 x3 x4 p h4 _ _ (held_first x0 x1 x2 x3 x4 p h4)).next (b := 2048)
    (B := ((16384 : ℝ) : EReal)) (by decide) number_le (by decide)
  refine ⟨k, hk, ?_⟩
  unfold_out out0_5
  rw [hw0, hw1, hw2, hw3, View.canon_unit_zero z3]
  unfold k0_pay1
  pointwise
  rw [fold_number x0 x1 x2 x3 p 6144 (by decide) _ _ _ (dist_fourth x0 x1 x2 x3 p) (least_fourth x0 x1 x2 x3 p)
        fun r => by rw [← h4]; rfl, least_fourth]
  exact (congrArg (Ideal.fptosi 32) hbest).trans (fptosi_natCast k.val k.isLt)

end Cert.Proof

end
-- ==== Proof.Distance.lean ====
/-
  The distance between a row and a code, as one function of the rows and the codes, and the two ways it is formed.
-/
module

public import proofs.«01_k».proof.Proof.Numbers

@[expose] public section

noncomputable section

namespace Cert.Proof

variable (X : Fin 9216 → Fin 256 → EReal) (E : Fin 256 → Fin 8192 → EReal)

/-- The squared distance between row `i` and code `j`, expanded: the row's squared length, less twice their product, plus
    the code's squared length. -/
def codeDist (i : Fin 9216) (j : Fin 8192) : EReal :=
  ((∑ k, X i k * X i k) - 2 * ∑ k, X i k * E k j) + ∑ k, E k j * E k j

/-- Doubling the code before the product, by adding it to itself, gives the same distance. -/
theorem codeDist_eq_doubled (i : Fin 9216) (j : Fin 8192) :
    ((∑ k, X i k * X i k) - ∑ k, X i k * (E k j + E k j)) + ∑ k, E k j * E k j = codeDist X E i j := by
  simp only [mul_add_self, ← two_mul_sum, codeDist]

end Cert.Proof

end
-- ==== Proof.Array.lean ====
/-
  What the kernel's result holds: at each row the word of the first code at the least distance from it.

  The output array is written in 18 blocks of 512 rows, no two of which meet, so block `t` ends as the body left it
  (`array_at`). The body's five inputs at that block are named (`rows_at`, `lengths_at`, …) as functions of the two arguments,
  and `Block.lean` says what the body makes of them.
-/
module

public import proofs.«01_k».proof.Proof.Block
public import proofs.«01_k».proof.Proof.Distance
public import proofs.«01_k».proof.Proof.Gen.KernelIdeal.Frame
public import Idealize.ShloMosaic.Lib.Pipeline.ValueKit.Point
public import Idealize.ShloMosaic.Lib.Pipeline.Value
public import Idealize.ShloMosaic.Lib.Claim

@[expose] public section

noncomputable section

namespace Cert.Proof

open Cert.KernelIdeal Cert.KernelIdeal.Gen Idealize.ShloMosaic Idealize.ShloMosaic.TcCoe Idealize.SL.Sem
open Idealize.ShloMosaic.Pipeline (Dat)

variable (m : (ℓ : Loc nD τ sig) → Buf (Elt Ideal) ℓ) (c : Dev nD)

/-- The first argument: the rows, in 16 groups of 576. -/
abbrev rowsArg : Vec Ideal S16x576x256 .f32 := m ((c : Thread nD τ).loc main_arg0)

/-- The second argument: the codes, one a column. -/
abbrev codesArg : Vec Ideal S256x8192 .f32 := m ((c : Thread nD τ).loc main_arg1)

/-- The rows as one list of 9216. -/
def rowsFlat (x : Vec Ideal S16x576x256 .f32) : Vec Ideal S9216x256 .f32 :=
  shapeCast S9216x256 x shapeCasts_S16x576x256_S9216x256

/-- The distance from row `i` to code `j`, of two arguments. -/
abbrev argDist (x : Vec Ideal S16x576x256 .f32) (e : Vec Ideal S256x8192 .f32) (i : Fin 9216) (j : Fin 8192) : EReal :=
  codeDist (fun i k => rowsFlat x (ix2 i k)) (fun k j => e (ix2 k j)) i j

/-! ## What the body's inputs are read from -/

/-- The rows the blocks are cut from. -/
theorem entry_rows : V m c main_call0_v0 = rowsFlat (rowsArg m c) := by
  show StableHlo.after hostOps0 (fun b => m (c, b)) (Proc.devRef .tc main_call0_v0) = _
  after_results
  rfl

/-- The rows' squared lengths. -/
theorem entry_lengths :
    V m c main_call0_v8
      = shapeCast S18x1x512 (broadcastInDim S9216x1 ![0] bcast_S9216_S9216x1_0
          (Host.reduceAdd (mulf (F := Ideal) (φ := .f32) (rowsFlat (rowsArg m c)) (rowsFlat (rowsArg m c)))
            (constant S_ .f32 0x00000000#32) reducesTo_S9216x256_S9216_d1 h_S_)) shapeCasts_S9216x1_S18x1x512 := by
  show StableHlo.after hostOps0 (fun b => m (c, b)) (Proc.devRef .tc main_call0_v8) = _
  after_results
  rfl

/-- The codes, doubled. -/
theorem entry_codes : V m c main_call0_v1 = addf (F := Ideal) (φ := .f32) (codesArg m c) (codesArg m c) := by
  show StableHlo.after hostOps0 (fun b => m (c, b)) (Proc.devRef .tc main_call0_v1) = _
  after_results
  rfl

/-- The codes' squared lengths. -/
theorem entry_code_lengths :
    V m c main_call0_v4
      = broadcastInDim S1x8192 ![1] bcast_S8192_S1x8192_1
          (Host.reduceAdd (mulf (F := Ideal) (φ := .f32) (codesArg m c) (codesArg m c)) (constant S_ .f32 0x00000000#32)
            reducesTo_S256x8192_S8192_d0 h_S_) := by
  show StableHlo.after hostOps0 (fun b => m (c, b)) (Proc.devRef .tc main_call0_v4) = _
  after_results
  rfl

/-- The codes' numbers. -/
theorem entry_numbers :
    V m c main_call0_v10 = shapeCast S1x8192 (sitofp (F := Ideal) .f32 (iotaInDim S8192 32 0)) shapeCasts_S8192_S1x8192 := by
  show StableHlo.after hostOps0 (fun b => m (c, b)) (Proc.devRef .tc main_call0_v10) = _
  after_results
  rfl

/-! ## The blocks -/

/-- Block `t` of the rows, of their lengths and of the output is the `t`-th of 18; the other inputs are whole at every
    block. -/
theorem block_index : ∀ t : Fin cfg0.N,
    (win0_5.index t 0 = t.val ∧ win0_5.index t 1 = 0 ∧ win0_5.index t 2 = 0)
      ∧ (win0_0.index t 0 = t.val ∧ win0_0.index t 1 = 0)
      ∧ (win0_1.index t 0 = t.val ∧ win0_1.index t 1 = 0 ∧ win0_1.index t 2 = 0)
      ∧ (win0_2.index t 0 = 0 ∧ win0_2.index t 1 = 0) ∧ (win0_3.index t 0 = 0 ∧ win0_3.index t 1 = 0)
      ∧ (win0_4.index t 0 = 0 ∧ win0_4.index t 1 = 0) :=
  (by decide +kernel : ∀ t : Fin grid0.N,
    (win0_5.index t 0 = t.val ∧ win0_5.index t 1 = 0 ∧ win0_5.index t 2 = 0)
      ∧ (win0_0.index t 0 = t.val ∧ win0_0.index t 1 = 0)
      ∧ (win0_1.index t 0 = t.val ∧ win0_1.index t 1 = 0 ∧ win0_1.index t 2 = 0)
      ∧ (win0_2.index t 0 = 0 ∧ win0_2.index t 1 = 0) ∧ (win0_3.index t 0 = 0 ∧ win0_3.index t 1 = 0)
      ∧ (win0_4.index t 0 = 0 ∧ win0_4.index t 1 = 0))

/-- Two blocks of the output at one index are one block. -/
theorem block_index_injective (t t' : Fin cfg0.N) (h : win0_5.index t = win0_5.index t') : t = t' :=
  Fin.ext (by rw [← (block_index t).1.1, ← (block_index t').1.1, h])

/-- Every block of the output is written back. -/
theorem writes_back : ∀ t : Fin cfg0.N, (cfg0.win 5).flush t = true :=
  (by decide +kernel : ∀ t : Fin grid0.N, win0_5.flush t = true)

/-- Block `t` of the final output array is what the body left at block `t`. -/
theorem block_final (t : Fin cfg0.N) :
    ((cfg0.win 5).blk t).view.read (Elt Ideal) ((dats m 0 c).arrAt 5 cfg0.N)
      = (cfg0.win 5).cut (grid0.coords t)
          (out0_5 (iblk m c 0 t) (iblk m c 1 t) (iblk m c 2 t) (iblk m c 3 t) (iblk m c 4 t)) := by
  rw [(dats m 0 c).read_blk_arrAt_eq_flushed 5
    (fun t t' _ _ hne => (cfg0.win 5).disjoint_blk fun h => hne (block_index_injective t t' h)) cfg0.N t t.isLt
    (writes_back t)]
  show (cfg0.win 5).cut (grid0.coords t) ((dats m 0 c).after 5 t) = _
  rw [after0_5]

/-- So row `p` of block `t` of that array is row `p` of what the body left. -/
theorem array_at (t : Fin 18) (p : Fin 512) :
    (dats m 0 c).arrAt 5 cfg0.N (ix3 t 0 p)
      = out0_5 (iblk m c 0 t) (iblk m c 1 t) (iblk m c 2 t) (iblk m c 3 t) (iblk m c 4 t) (ix3 0 0 p) := by
  refine Eq.trans ?_ (congrFun (block_final m c t) (ix3 0 0 p))
  show _ = (dats m 0 c).arrAt 5 cfg0.N (((cfg0.win 5).blk t).view.emb (ix3 0 0 p))
  refine congrArg ((dats m 0 c).arrAt 5 cfg0.N) ?_
  blk_ext [block_index t]

/-- Row `p` of block `t`, among all rows. -/
def rowOf (t : Fin 18) (p : Fin 512) : Fin 9216 := ⟨t.val * 512 + p.val, by omega⟩

theorem rows_at (t : Fin 18) (p : Fin 512) (k : Fin 256) :
    iblk m c 0 t (ix2 p k) = rowsFlat (rowsArg m c) (ix2 (rowOf t p) k) := by
  rw [← entry_rows]
  show V m c main_call0_v0 (((cfg0.win 0).blk t).view.emb (ix2 p k)) = _
  refine congrArg (V m c main_call0_v0) ?_
  blk_ext [block_index t, rowOf]

theorem lengths_at (t : Fin 18) (p : Fin 512) :
    iblk m c 1 t (ix3 0 0 p)
      = ∑ k : Fin 256, rowsFlat (rowsArg m c) (ix2 (rowOf t p) k) * rowsFlat (rowsArg m c) (ix2 (rowOf t p) k) := by
  have h : iblk m c 1 t (ix3 0 0 p) = V m c main_call0_v8 (ix3 t 0 p) := by
    show V m c main_call0_v8 (((cfg0.win 1).blk t).view.emb (ix3 0 0 p)) = _
    refine congrArg (V m c main_call0_v8) ?_
    blk_ext [block_index t]
  rw [h, entry_lengths]
  generalize rowsFlat (rowsArg m c) = x
  pointwise
  rfl

theorem codes_at (t : Fin 18) (k : Fin 256) (j : Fin 8192) :
    iblk m c 2 t (ix2 k j) = codesArg m c (ix2 k j) + codesArg m c (ix2 k j) := by
  have h : iblk m c 2 t (ix2 k j) = V m c main_call0_v1 (ix2 k j) := by
    show V m c main_call0_v1 (((cfg0.win 2).blk t).view.emb (ix2 k j)) = _
    refine congrArg (V m c main_call0_v1) ?_
    blk_ext [block_index t]
  rw [h, entry_codes]
  rfl

theorem code_lengths_at (t : Fin 18) (j : Fin 8192) :
    iblk m c 3 t (ix2 0 j) = ∑ k : Fin 256, codesArg m c (ix2 k j) * codesArg m c (ix2 k j) := by
  have h : iblk m c 3 t (ix2 0 j) = V m c main_call0_v4 (ix2 0 j) := by
    show V m c main_call0_v4 (((cfg0.win 3).blk t).view.emb (ix2 0 j)) = _
    refine congrArg (V m c main_call0_v4) ?_
    blk_ext [block_index t]
  rw [h, entry_code_lengths]
  generalize codesArg m c = e
  pointwise

theorem numbers_at (t : Fin 18) (j : Fin 8192) : iblk m c 4 t (ix2 0 j) = ((j.val : ℝ) : EReal) := by
  have h : iblk m c 4 t (ix2 0 j) = V m c main_call0_v10 (ix2 0 j) := by
    show V m c main_call0_v10 (((cfg0.win 4).blk t).view.emb (ix2 0 j)) = _
    refine congrArg (V m c main_call0_v10) ?_
    blk_ext [block_index t]
  rw [h, entry_numbers]
  pointwise
  exact sitofp_ofNat j.val j.isLt

/-! ## The result -/

/-- The distances the body forms at block `t` are the rows' distances to the codes. -/
theorem dist_eq (t : Fin 18) (p : Fin 512) :
    dist (iblk m c 0 t) (iblk m c 1 t) (iblk m c 2 t) (iblk m c 3 t) p = argDist (rowsArg m c) (codesArg m c) (rowOf t p) := by
  funext j
  refine Eq.trans ?_ (codeDist_eq_doubled _ _ (rowOf t p) j)
  unfold dist
  rw [lengths_at, code_lengths_at]
  simp only [rows_at, codes_at]

/-- Row `p` of block `t` of the output array: the word of the first code at the least distance from that row. -/
theorem array_row (t : Fin 18) (p : Fin 512) :
    ∃ k : Fin 8192, FirstMin (argDist (rowsArg m c) (codesArg m c) (rowOf t p)) 8192 k
      ∧ (dats m 0 c).arrAt 5 cfg0.N (ix3 t 0 p) = BitVec.ofNat 32 k.val := by
  rw [array_at, ← dist_eq]
  exact out_row _ _ _ _ _ p (numbers_at m c t)

/-- The result is the output array, laid out again in 16 groups of 576. -/
theorem result_eq :
    Pipeline.afterTail₀ cfgs (dats m) 0 (V0 m) [hostOps1] c main_v0
      = shapeCast S16x576 ((dats m 0 c).arrAt 5 cfg0.N) shapeCasts_S18x1x512_S16x576 := by
  show StableHlo.after hostOps1 (Pipeline.withArrays spec0 c (V0 m c) fun w => (dats m 0 c).arrAt w cfg0.N)
    (Proc.devRef .tc main_v0) = _
  after_results
  exact congrArg (fun A => shapeCast S16x576 A shapeCasts_S18x1x512_S16x576)
    (Pipeline.withArrays_arr spec0 (by decide) c (V0 m c) (fun w => (dats m 0 c).arrAt w cfg0.N) 5)

/-- Entry `s` of group `b`, among all rows. -/
def rowAt (b : Fin 16) (s : Fin 576) : Fin 9216 := ⟨b.val * 576 + s.val, by omega⟩

/-- THE KERNEL'S RESULT at entry `s` of group `b`: the word of the first code at the least distance from that row. -/
theorem kernel_result (b : Fin 16) (s : Fin 576) :
    ∃ k : Fin 8192, FirstMin (argDist (rowsArg m c) (codesArg m c) (rowAt b s)) 8192 k
      ∧ Pipeline.afterTail₀ cfgs (dats m) 0 (V0 m) [hostOps1] c main_v0 (ix2 b s) = BitVec.ofNat 32 k.val := by
  have hread : ∀ A : S18x1x512.Idx → BitVec 32, shapeCast S16x576 A shapeCasts_S18x1x512_S16x576 (ix2 b s)
      = A (ix3 ⟨(b.val * 576 + s.val) / 512, by omega⟩ 0 ⟨(b.val * 576 + s.val) % 512, by omega⟩) := fun A => by
    pointwise
  have hrow : rowOf ⟨(b.val * 576 + s.val) / 512, by omega⟩ ⟨(b.val * 576 + s.val) % 512, by omega⟩ = rowAt b s :=
    Fin.ext (Nat.div_add_mod' _ _)
  rw [result_eq, ← hrow]
  obtain ⟨k, hk, h⟩ := array_row m c ⟨(b.val * 576 + s.val) / 512, by omega⟩ ⟨(b.val * 576 + s.val) % 512, by omega⟩
  exact ⟨k, hk, (hread _).trans h⟩

end Cert.Proof

end
-- ==== Proof.Argmax.lean ====
/-
  What the reference's arg-max returns for one row: the word of the first code at the least distance.

  The arg-max folds, over the (value, number) pairs of a row, a step that keeps the pair of larger value and, of two equal
  values, the pair of smaller number. The values are the distances negated. Whatever the order of the pairs, the fold ends at
  the pair of the first smallest distance: the step yields one of its two pairs (`step_mem`), takes that pair when it comes
  (`step_take`) and keeps it from then on (`step_keep`).
-/
module

public import proofs.«01_k».proof.Proof.FirstMin
public import proofs.«01_k».proof.Proof.Distance
public import proofs.«01_k».proof.ReferenceIdeal
public import Idealize.ShloMosaic.Lib.Pointwise
public import Idealize.ShloMosaic.Lib.WordCmp

@[expose] public section

noncomputable section

namespace Cert.Proof

open Cert.ReferenceIdeal Idealize.ShloMosaic

/-- The arg-max's step on two pairs. -/
abbrev step (a b : EReal × BitVec 32) : EReal × BitVec 32 := reducer_argmax_f32_i32 (F := Ideal) a b

/-- A larger value on the left: the left pair. -/
theorem step_of_gt {a b : EReal × BitVec 32} (h : b.1 < a.1) : step a b = a := by
  have hne : a.1 ≠ b.1 := h.ne'
  simp [step, reducer_argmax_f32_i32, Ideal.cmpf_def, Ideal.cmp, h, hne, Scalar.select, IntOp.ori, IntOp.andi]

/-- A larger value on the right: the right pair. -/
theorem step_of_lt {a b : EReal × BitVec 32} (h : a.1 < b.1) : step a b = b := by
  have hne : a.1 ≠ b.1 := h.ne
  have hng : ¬ b.1 < a.1 := h.not_gt
  simp [step, reducer_argmax_f32_i32, Ideal.cmpf_def, Ideal.cmp, hng, hne, Scalar.select, IntOp.ori, IntOp.andi]

/-- Equal values: the left pair if its number is smaller, else the right pair. -/
theorem step_of_eq {a b : EReal × BitVec 32} (h : a.1 = b.1) :
    step a b = if IntOp.cmpi .slt a.2 b.2 = 1#1 then a else b := by
  obtain ⟨a1, a2⟩ := a
  obtain ⟨b1, b2⟩ := b
  obtain rfl : a1 = b1 := h
  by_cases hs : IntOp.cmpi .slt a2 b2 = 1#1
  · simp [step, reducer_argmax_f32_i32, Ideal.cmpf_def, Ideal.cmp, Scalar.select, IntOp.ori, IntOp.andi, hs]
  · simp [step, reducer_argmax_f32_i32, Ideal.cmpf_def, Ideal.cmp, Scalar.select, IntOp.ori, IntOp.andi,
      ValueIdx.eq_zero_of_ne_one hs]

/-- The step yields one of its two pairs. -/
theorem step_mem (a b : EReal × BitVec 32) : step a b = a ∨ step a b = b := by
  rcases lt_trichotomy a.1 b.1 with h | h | h
  · exact Or.inr (step_of_lt h)
  · rw [step_of_eq h]
    exact ite_eq_or_eq _ _ _
  · exact Or.inl (step_of_gt h)

/-- The pair of code `j`: its distance negated, and its number's word. -/
def pairOf (D : Fin 8192 → EReal) (j : Fin 8192) : EReal × BitVec 32 := (-D j, BitVec.ofNat 32 j.val)

variable {D : Fin 8192 → EReal} {k : Fin 8192} (hk : FirstMin D 8192 k)
include hk

/-- Against any code's pair, the pair of the first smallest distance is kept. -/
theorem step_keep (j : Fin 8192) : step (pairOf D k) (pairOf D j) = pairOf D k := by
  rcases (hk.le j j.isLt).lt_or_eq with h | h
  · exact step_of_gt (EReal.neg_lt_neg_iff.mpr h)
  · rw [step_of_eq (congrArg Neg.neg h)]
    split_ifs with hs
    · rfl
    · have hkj : ¬ k.val < j.val := fun hlt =>
        hs ((WordCmp.cmpi_slt_ofNat_eq_one_iff (by omega) (by omega)).mpr hlt)
      have hjk : ¬ j.val < k.val := fun hlt => (hk.first j hlt).ne h
      rw [show j = k from Fin.ext (by omega)]

/-- When it comes after any code's pair, or after the pair (−∞, 0) the arg-max starts from, it is taken. -/
theorem step_take (a : EReal × BitVec 32) (ha : a = (⊥, 0#32) ∨ ∃ j, a = pairOf D j) :
    step a (pairOf D k) = pairOf D k := by
  rcases ha with rfl | ⟨j, rfl⟩
  · rcases (bot_le : ⊥ ≤ -D k).lt_or_eq with h | h
    · exact step_of_lt h
    · have htop : D k = ⊤ := by rw [← neg_neg (D k), ← h, EReal.neg_bot]
      have hk0 : k.val = 0 := by
        by_contra hne
        have := hk.first ⟨0, by decide⟩ (Nat.pos_of_ne_zero hne)
        rw [htop] at this
        exact not_top_lt this
      rw [step_of_eq h, if_neg]
      show ¬ IntOp.cmpi .slt 0#32 (BitVec.ofNat 32 k.val) = 1#1
      rw [hk0]
      decide
  · rcases (hk.le j j.isLt).lt_or_eq with h | h
    · exact step_of_lt (EReal.neg_lt_neg_iff.mpr h)
    · rw [step_of_eq (congrArg Neg.neg h.symm)]
      split_ifs with hs
      · have hjk : j.val < k.val := (WordCmp.cmpi_slt_ofNat_eq_one_iff (by omega) (by omega)).mp hs
        exact absurd h (hk.first j hjk).ne
      · rfl

/-- The fold over codes' pairs, in whatever order, that of the first smallest distance among them, ends at it. -/
theorem foldl_step (L : List (EReal × BitVec 32)) (hL : ∀ q ∈ L, ∃ j, q = pairOf D j) :
    ∀ a : EReal × BitVec 32, (a = (⊥, 0#32) ∨ ∃ j, a = pairOf D j) → (a = pairOf D k ∨ pairOf D k ∈ L) →
      L.foldl step a = pairOf D k := by
  induction L with
  | nil => exact fun a _ h => h.resolve_right List.not_mem_nil
  | cons q L ih =>
    intro a ha h
    obtain ⟨j, hj⟩ := hL q List.mem_cons_self
    refine ih (fun q' hq' => hL q' (List.mem_cons_of_mem _ hq')) (step a q) ?_ ?_
    · rcases step_mem a q with e | e <;> rw [e]
      · exact ha
      · exact Or.inr ⟨j, hj⟩
    · rcases h with rfl | h
      · exact Or.inl (hj ▸ step_keep hk j)
      · rcases List.mem_cons.mp h with h | h
        · exact Or.inl (h ▸ step_take hk a ha)
        · exact Or.inr h

/-- THE ARG-MAX OF ONE ROW. Where row `i` of `v` holds the distances `D` negated, the arg-max over the row's columns returns
    the word of `k`, the first code at the least distance. -/
theorem argmax_row (v : FVec Ideal S9216x8192 .f32) (i : Fin 9216) (hv : ∀ j : Fin 8192, v (ix2 i j) = -D j)
    (h : S9216x8192.ReducesTo [1] S9216) (hu : 0 < S_.numel) :
    (Host.argReduce (reducer_argmax_f32_i32 (F := Ideal)) v (iotaInDim S9216x8192 32 1) (constant S_ .f32 0xFF800000#32)
      (constantI S_ 32 0#32) h hu (ix1 i)).2 = BitVec.ofNat 32 k.val := by
  have hdrop : ∀ (a : Fin 9216) (j : Fin 8192), h.drop (ix2 a j) = ix1 a := fun a j => by
    funext b
    obtain rfl : b = 0 := Subsingleton.elim (α := Fin 1) _ _
    exact Fin.ext (h.drop_apply_val_of_eq (ix2 a j) 0 0)
  have hpair : ∀ j : Fin 8192, (v (ix2 i j), iotaInDim S9216x8192 32 1 (ix2 i j)) = pairOf D j := fun j => by
    rw [hv]; rfl
  rw [Ideal.argReduce_eq_reduce2, Host.reduce2_eq_foldl_fiber]
  refine congrArg Prod.snd (foldl_step hk _ (fun q hq => ?_) _ (Or.inl ?_) (Or.inr ?_))
  · obtain ⟨n, hn, rfl⟩ := List.mem_map.mp hq
    have hn' : h.drop (S9216x8192.rowMajor.symm n) = ix1 i := of_decide_eq_true (List.mem_filter.mp hn).2
    obtain ⟨a, j, haj⟩ : ∃ (a : Fin 9216) (j : Fin 8192), S9216x8192.rowMajor.symm n = ix2 a j := ⟨_, _, ValueIdx.eq_ix2 _⟩
    rw [haj, hdrop] at hn'
    have hai : a = i := congrFun hn' 0
    exact ⟨j, by rw [haj, hai]; exact hpair j⟩
  · exact congrArg (fun a => (a, 0#32)) word_bot
  · refine List.mem_map.mpr ⟨S9216x8192.rowMajor (ix2 i k), List.mem_filter.mpr ⟨List.mem_finRange _, ?_⟩, ?_⟩
    · exact decide_eq_true (by rw [Equiv.symm_apply_apply]; exact hdrop i k)
    · rw [Equiv.symm_apply_apply]; exact hpair k

end Cert.Proof

end
-- ==== Proof.Reference.lean ====
/-
  What the reference returns: at each row the word of the first code at the least distance from it.

  The reference forms all the distances, negates them and takes each row's arg-max. `scores_at` reads one negated distance;
  `reference_result` reads one entry of the result, by the arg-max of one row (`Argmax.lean`).
-/
module

public import proofs.«01_k».proof.Proof.Argmax
public import proofs.«01_k».proof.Proof.Gen.ReferenceIdeal

@[expose] public section

noncomputable section

namespace Cert.Proof

open Cert.ReferenceIdeal Cert.ReferenceIdeal.Gen Idealize.ShloMosaic

/-- The negated distances of the rows `X` to the codes `e`, as the reference computes them. -/
def scores (X : FVec Ideal S9216x256 .f32) (e : FVec Ideal S256x8192 .f32) : FVec Ideal S9216x8192 .f32 :=
  Host.negf (addf
    (subf
      (broadcastInDim S9216x8192 ![0, 1] bcast_S9216x1_S9216x8192_0_1 (broadcastInDim S9216x1 ![0] bcast_S9216_S9216x1_0
        (Host.reduceAdd (mulf X X) (constant S_ .f32 0x00000000#32) reducesTo_S9216x256_S9216_d1 h_S_)))
      (mulf (broadcastInDim S9216x8192 ![] bcast_S_S9216x8192 (constant S_ .f32 0x40000000#32))
        (Host.dotGeneral dot_S9216x256_S256x8192_S9216x8192_1_0_0_1_n_n none X e)))
    (broadcastInDim S9216x8192 ![0, 1] bcast_S1x8192_S9216x8192_0_1 (broadcastInDim S1x8192 ![1] bcast_S8192_S1x8192_1
      (Host.reduceAdd (mulf e e) (constant S_ .f32 0x00000000#32) reducesTo_S256x8192_S8192_d0 h_S_))))

/-- One entry of them: the distance from row `i` to code `j`, negated. -/
theorem scores_at (X : FVec Ideal S9216x256 .f32) (e : FVec Ideal S256x8192 .f32) (i : Fin 9216) (j : Fin 8192) :
    scores X e (ix2 i j) = -codeDist (fun i k => X (ix2 i k)) (fun k j => e (ix2 k j)) i j := by
  unfold scores
  pointwise
  rw [codeDist, word_two]

/-- The list of 9216 words as 16 groups of 576, at entry `s` of group `b`. -/
theorem groups_at (w : IVec S9216 32) (b : Fin 16) (s : Fin 576) :
    shapeCast S16x576 w shapeCasts_S9216_S16x576 (ix2 b s) = w (ix1 ⟨b.val * 576 + s.val, by omega⟩) := by
  pointwise

/-- Each row's arg-max. -/
def rowResult (X : FVec Ideal S9216x256 .f32) (e : FVec Ideal S256x8192 .f32) : IVec S9216 32 := fun i =>
  (Host.argReduce (reducer_argmax_f32_i32 (F := Ideal)) (scores X e) (iotaInDim S9216x8192 32 1)
    (constant S_ .f32 0xFF800000#32) (constantI S_ 32 0#32) reducesTo_S9216x8192_S9216_d1 h_S_ i).2

/-- The arg-max of row `i`: the word of `k`, the first code at the least distance from that row. -/
theorem rowResult_at (X : FVec Ideal S9216x256 .f32) (e : FVec Ideal S256x8192 .f32) (i : Fin 9216) (k : Fin 8192)
    (hk : FirstMin (codeDist (fun i k => X (ix2 i k)) (fun k j => e (ix2 k j)) i) 8192 k) :
    rowResult X e (ix1 i) = BitVec.ofNat 32 k.val := by
  have hfun : rowResult X e = fun i =>
      (Host.argReduce (reducer_argmax_f32_i32 (F := Ideal)) (scores X e) (iotaInDim S9216x8192 32 1)
        (constant S_ .f32 0xFF800000#32) (constantI S_ 32 0#32) reducesTo_S9216x8192_S9216_d1 h_S_ i).2 := rfl
  rw [hfun]
  exact argmax_row hk (scores X e) i (fun j => scores_at X e i j) reducesTo_S9216x8192_S9216_d1 h_S_

/-- The reference's result on the rows `x`, in 16 groups of 576, and the codes `e`. -/
def referenceResult (x : FVec Ideal S16x576x256 .f32) (e : FVec Ideal S256x8192 .f32) : IVec S16x576 32 := fun i =>
  shapeCast S16x576 (rowResult (fun i => shapeCast S9216x256 x shapeCasts_S16x576x256_S9216x256 i) e)
    shapeCasts_S9216_S16x576 i

/-- THE REFERENCE'S RESULT at row `s` of group `b`: the word of `k`, the first code at the least distance from that row. -/
theorem reference_result (x : FVec Ideal S16x576x256 .f32) (e : FVec Ideal S256x8192 .f32) (b : Fin 16) (s : Fin 576)
    (k : Fin 8192)
    (hk : FirstMin (codeDist (fun i k => shapeCast S9216x256 x shapeCasts_S16x576x256_S9216x256 (ix2 i k))
      (fun k j => e (ix2 k j)) ⟨b.val * 576 + s.val, by omega⟩) 8192 k) :
    referenceResult x e (ix2 b s) = BitVec.ofNat 32 k.val :=
  (groups_at _ b s).trans (rowResult_at _ e _ k hk)

end Cert.Proof

end
-- ==== Proof.Equation.lean ====
/-
  The kernel's result and the reference's, on the same two arguments, are one array: at each row both are the word of the
  first code at the least distance from it.
-/
module

public import proofs.«01_k».proof.Proof.Array
public import proofs.«01_k».proof.Proof.Reference

@[expose] public section

noncomputable section

namespace Cert.Proof

open Cert.KernelIdeal Cert.KernelIdeal.Gen Idealize.ShloMosaic

/-- THE EQUATION: the reference's result on the kernel's two arguments is what the kernel's result array ends holding. -/
theorem results_eq (m : (ℓ : Loc nD τ sig) → Buf (Elt Ideal) ℓ) (c : Dev nD) :
    referenceResult (rowsArg m c) (codesArg m c)
      = Pipeline.afterTail₀ cfgs (dats m) 0 (V0 m) [hostOps1] c main_v0 := by
  funext i
  obtain ⟨b, s, rfl⟩ : ∃ (b : Fin 16) (s : Fin 576), i = ix2 b s := ⟨_, _, ValueIdx.eq_ix2 i⟩
  obtain ⟨k, hk, h⟩ := kernel_result m c b s
  exact (reference_result _ _ b s k hk).trans h.symm

end Cert.Proof

end
-- ==== Proof.lean ====
/-
  The certificate's claim, assembled.

  The three programs run and leave their arguments as they were (`quiescent_…`); the idealized kernel is the kernel's own
  text; and the kernel's result is the reference's (`results_eq`, Proof/Equation.lean), which in turn rests on what the
  kernel's array holds (Proof/Array.lean, by blocks: Proof/Block.lean) and on what the reference returns
  (Proof/Reference.lean, by rows: Proof/Argmax.lean).
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Equation
public import Idealize.ShloMosaic.Lib.Quiescent
public import Idealize.ShloMosaic.Adequacy
public import Idealize.ShloMosaic.Lib.Tactic.CleanTypes
public import Idealize.ShloMosaic.Init

@[expose] public section

noncomputable section

namespace Cert.Proof

open Idealize.ShloMosaic Idealize.SL.Sem Cert.Kernel

/-- The reference runs, its arguments end unchanged, and it has no semaphore to leave raised. -/
theorem frame_reference : Cert.quiescent_ReferenceIdeal (hReferenceIdeal := Cert.ReferenceIdeal.Gen.facts) := by
  intro m g _
  hlo_run
  · exact fun _ => ⟨trivial, trivial⟩
  · exact sem_eq_zero_of_no_sems (by decide) _

/-- The kernel and the reference, on equal arguments, both run and return equal arrays. -/
theorem kernel_eq_reference :
    Cert.algebraic_KernelIdeal_ReferenceIdeal (hKernelIdeal := Cert.KernelIdeal.Gen.facts)
      (hReferenceIdeal := Cert.ReferenceIdeal.Gen.facts) := by
  pair_intro
  · run_from (Cert.KernelIdeal.Gen.run_main m g)
    · exact Cert.KernelIdeal.Gen.W_main_arg0 m (Cert.KernelIdeal.Gen.dats m) c
    · exact Cert.KernelIdeal.Gen.W_main_arg1 m (Cert.KernelIdeal.Gen.dats m) c
  · hlo_run
    unfold StableHlo.TRef.toBuf StableHlo.TRef.ofBuf
    clean_types
    simp only [cast_eq]
    exact results_eq m c

/-- The certificate's claim. -/
theorem claim : Cert.Claim :=
  ⟨Cert.Kernel.Gen.facts, Cert.KernelIdeal.Gen.facts, Cert.ReferenceIdeal.Gen.facts,
    fun m g _ => Cert.Kernel.Gen.frame m g, fun m g _ => Cert.KernelIdeal.Gen.frame m g, frame_reference, trivial,
    kernel_eq_reference⟩

end Cert.Proof

end
